-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S16384x17x64 : Shape := ⟨3, ![16384, 17, 64]⟩
abbrev S17x17 : Shape := ⟨2, ![17, 17]⟩
abbrev S64x64 : Shape := ⟨2, ![64, 64]⟩
abbrev S64 : Shape := ⟨1, ![64]⟩
abbrev S_ : Shape := ⟨0, ![]⟩

class Facts : Prop where
  bcast_S_S16384x17x64 : S_.BroadcastsInDim S16384x17x64 (![] : Fin 0 → Fin S16384x17x64.rank)
  reducesTo_S16384x17x64_S_d0_1_2 : S16384x17x64.ReducesTo [0, 1, 2] S_
  h_S_ : 0 < S_.numel
  bcast_S_S17x17 : S_.BroadcastsInDim S17x17 (![] : Fin 0 → Fin S17x17.rank)
  reducesTo_S17x17_S_d0_1 : S17x17.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64 .f32) (main_v48 : IVec S_ 1) (main_v50 : FVec F S64 .f32) : IVec S_ 1 :=
  let main_cst_19 : FVec F S_ .f32 := constant S_ .f32 0x00000000#32
  let main_v51 : FVec F S64 .f32 := broadcastInDim S64 ![] bcast_S_S64 main_cst_19
  let main_v52 : IVec S64 1 := cmpf .ogt main_v50 main_v51
  let main_c_20 : IVec S_ 1 := constantI S_ 1 1#1
  let main_v53 : IVec S_ 1 := (fun x v => Host.reduce IntOp.andi x v reducesTo_S64_S_d0 h_S_) main_v52 main_c_20
  let main_v54 : IVec S_ 1 := andi main_v48 main_v53
  let main_cst_21 : FVec F S_ .f32 := constant S_ .f32 0x3A83126F#32
  let main_v55 : FVec F S64 .f32 := broadcastInDim S64 ![] bcast_S_S64 main_cst_21
  let main_v56 : FVec F S64 .f32 := addf main_arg13 main_v55
  let main_cst_22 : FVec F S_ .f32 := constant S_ .f32 0x00000000#32
  let main_v57 : FVec F S64 .f32 := broadcastInDim S64 ![] bcast_S_S64 main_cst_22
  let main_v58 : IVec S64 1 := cmpf .ogt main_v56 main_v57
  let main_c_23 : IVec S_ 1 := constantI S_ 1 1#1
  let main_v59 : IVec S_ 1 := (fun x v => Host.reduce IntOp.andi x v reducesTo_S64_S_d0 h_S_) main_v58 main_c_23
  let main_v60 : IVec S_ 1 := andi main_v54 main_v59
  main_v60

def fn_part2 {F : FTy → Type} [FloatOps F] (main_arg7 : FVec F S64 .f32) (main_arg8 : FVec F S64x64 .f32) (main_arg9 : FVec F S64 .f32) (main_arg10 : FVec F S64 .f32) (main_arg13 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_cst_18 : FVec F S_ .f32 := constant S_ .f32 0x3A83126F#32
  let main_v49 : FVec F S64 .f32 := broadcastInDim S64 ![] bcast_S_S64 main_cst_18
  let main_v50 : FVec F S64 .f32 := addf main_arg7 main_v49
  fn_part3 (F := F) main_arg13 main_v48 main_v50

def fn_part1 {F : FTy → Type} [FloatOps F] (main_arg4 : FVec F S64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg13 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg13 main_v33

def fn {F : FTy → Type} [FloatOps F] (main_arg0 : FVec F S16384x17x64 .f32) (main_arg1 : FVec F S17x17 .f32) (main_arg2 : FVec F S64x64 .f32) (main_arg3 : FVec F S64 .f32) (main_arg4 : FVec F S64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64 .f32) (main_arg13 : FVec F S64 .f32) : IVec S_ 1 :=
  let main_v0 : FVec F S16384x17x64 .f32 := Host.absf main_arg0
  let main_cst : FVec F S_ .f32 := constant S_ .f32 0x7F800000#32
  let main_v1 : FVec F S16384x17x64 .f32 := broadcastInDim S16384x17x64 ![] bcast_S_S16384x17x64 main_cst
  let main_v2 : IVec S16384x17x64 1 := cmpf .olt main_v0 main_v1
  let main_c : IVec S_ 1 := constantI S_ 1 1#1
  let main_v3 : IVec S_ 1 := (fun x v => Host.reduce IntOp.andi x v reducesTo_S16384x17x64_S_d0_1_2 h_S_) main_v2 main_c
  let main_v4 : FVec F S17x17 .f32 := Host.absf main_arg1
  let main_cst_0 : FVec F S_ .f32 := constant S_ .f32 0x7F800000#32
  let main_v5 : FVec F S17x17 .f32 := broadcastInDim S17x17 ![] bcast_S_S17x17 main_cst_0
  let main_v6 : IVec S17x17 1 := cmpf .olt main_v4 main_v5
  let main_c_1 : IVec S_ 1 := constantI S_ 1 1#1
  let main_v7 : IVec S_ 1 := (fun x v => Host.reduce IntOp.andi x v reducesTo_S17x17_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg13 main_v13 main_v16
-- ==== Kernel.lean ====
abbrev S16384x17x64 : Shape := ⟨3, ![16384, 17, 64]⟩
abbrev S17x17 : Shape := ⟨2, ![17, 17]⟩
abbrev S64x64 : Shape := ⟨2, ![64, 64]⟩
abbrev S64 : Shape := ⟨1, ![64]⟩
abbrev S_ : Shape := ⟨0, ![]⟩
abbrev S1x64 : Shape := ⟨2, ![1, 64]⟩
abbrev S1x64x1 : Shape := ⟨3, ![1, 64, 1]⟩
abbrev S17x64x16384 : Shape := ⟨3, ![17, 64, 16384]⟩
abbrev S17x64x512 : Shape := ⟨3, ![17, 64, 512]⟩
abbrev S17x64x128 : Shape := ⟨3, ![17, 64, 128]⟩
abbrev S1x64x512 : Shape := ⟨3, ![1, 64, 512]⟩
abbrev S64x512 : Shape := ⟨2, ![64, 512]⟩

abbrev nBuf : Space → Nat
  | .hbm => 45
  | .vmem => 9
  | .smem => 0
  | _ => 0

abbrev bufTy : (tb : Table) → Fin (tcTables nBuf tb) → BufTy
  | .hbm, ⟨0, _⟩ => ⟨S16384x17x64, .f32⟩
  | .hbm, ⟨1, _⟩ => ⟨S17x17, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S1x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S1x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S1x64x1, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S1x64x1, .f32⟩
  | .hbm, ⟨42, _⟩ => ⟨S17x64x16384, .f32⟩
  | .hbm, ⟨43, _⟩ => ⟨S17x64x16384, .f32⟩
  | .hbm, ⟨44, _⟩ => ⟨S16384x17x64, .f32⟩
  | .local _ .vmem, ⟨0, _⟩ => ⟨S17x64x512, .f32⟩
  | .local _ .vmem, ⟨1, _⟩ => ⟨S17x64x512, .f32⟩
  | .local _ .vmem, ⟨2, _⟩ => ⟨S17x17, .f32⟩
  | .local _ .vmem, ⟨3, _⟩ => ⟨S64x64, .f32⟩
  | .local _ .vmem, ⟨4, _⟩ => ⟨S1x64x1, .f32⟩
  | .local _ .vmem, ⟨5, _⟩ => ⟨S64x64, .f32⟩
  | .local _ .vmem, ⟨6, _⟩ => ⟨S1x64x1, .f32⟩
  | .local _ .vmem, ⟨7, _⟩ => ⟨S17x64x512, .f32⟩
  | .local _ .vmem, ⟨8, _⟩ => ⟨S17x64x512, .f32⟩
  | _, _ => ⟨S16384x17x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S17x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S17x17 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S17x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x17x64 : Shape := ⟨3, ![16384, 17, 64]⟩
abbrev S17x17 : Shape := ⟨2, ![17, 17]⟩
abbrev S64x64 : Shape := ⟨2, ![64, 64]⟩
abbrev S64 : Shape := ⟨1, ![64]⟩
abbrev S16384x64x17 : Shape := ⟨3, ![16384, 64, 17]⟩
abbrev S1x1x64 : Shape := ⟨3, ![1, 1, 64]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S16384x17x64, .f32⟩
  | .hbm, ⟨1, _⟩ => ⟨S17x17, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S16384x17x64, .f32⟩
  | .hbm, ⟨15, _⟩ => ⟨S16384x64x17, .f32⟩
  | .hbm, ⟨16, _⟩ => ⟨S16384x17x64, .f32⟩
  | .hbm, ⟨17, _⟩ => ⟨S1x1x64, .f32⟩
  | .hbm, ⟨18, _⟩ => ⟨S16384x17x64, .f32⟩
  | .hbm, ⟨19, _⟩ => ⟨S16384x17x64, .f32⟩
  | .hbm, ⟨20, _⟩ => ⟨S1x1x64, .f32⟩
  | .hbm, ⟨21, _⟩ => ⟨S16384x17x64, .f32⟩
  | .hbm, ⟨22, _⟩ => ⟨S16384x17x64, .f32⟩
  | .hbm, ⟨23, _⟩ => ⟨S1x1x64, .f32⟩
  | .hbm, ⟨24, _⟩ => ⟨S16384x17x64, .f32⟩
  | .hbm, ⟨25, _⟩ => ⟨S16384x17x64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S1x1x64, .f32⟩
  | .hbm, ⟨31, _⟩ => ⟨S16384x17x64, .f32⟩
  | .hbm, ⟨32, _⟩ => ⟨S16384x17x64, .f32⟩
  | .hbm, ⟨33, _⟩ => ⟨S1x1x64, .f32⟩
  | .hbm, ⟨34, _⟩ => ⟨S16384x17x64, .f32⟩
  | .hbm, ⟨35, _⟩ => ⟨S16384x17x64, .f32⟩
  | .hbm, ⟨36, _⟩ => ⟨S_, .f32⟩
  | .hbm, ⟨37, _⟩ => ⟨S16384x17x64, .f32⟩
  | .hbm, ⟨38, _⟩ => ⟨S16384x17x64, .f32⟩
  | .hbm, ⟨39, _⟩ => ⟨S16384x17x64, .f32⟩
  | .hbm, ⟨40, _⟩ => ⟨S16384x64x17, .f32⟩
  | .hbm, ⟨41, _⟩ => ⟨S16384x17x64, .f32⟩
  | .hbm, ⟨42, _⟩ => ⟨S1x1x64, .f32⟩
  | .hbm, ⟨43, _⟩ => ⟨S16384x17x64, .f32⟩
  | .hbm, ⟨44, _⟩ => ⟨S16384x17x64, .f32⟩
  | .hbm, ⟨45, _⟩ => ⟨S1x1x64, .f32⟩
  | .hbm, ⟨46, _⟩ => ⟨S16384x17x64, .f32⟩
  | .hbm, ⟨47, _⟩ => ⟨S16384x17x64, .f32⟩
  | .hbm, ⟨48, _⟩ => ⟨S1x1x64, .f32⟩
  | .hbm, ⟨49, _⟩ => ⟨S16384x17x64, .f32⟩
  | .hbm, ⟨50, _⟩ => ⟨S16384x17x64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S1x1x64, .f32⟩
  | .hbm, ⟨56, _⟩ => ⟨S16384x17x64, .f32⟩
  | .hbm, ⟨57, _⟩ => ⟨S16384x17x64, .f32⟩
  | .hbm, ⟨58, _⟩ => ⟨S1x1x64, .f32⟩
  | .hbm, ⟨59, _⟩ => ⟨S16384x17x64, .f32⟩
  | .hbm, ⟨60, _⟩ => ⟨S16384x17x64, .f32⟩
  | .hbm, ⟨61, _⟩ => ⟨S_, .f32⟩
  | .hbm, ⟨62, _⟩ => ⟨S16384x17x64, .f32⟩
  | .hbm, ⟨63, _⟩ => ⟨S16384x17x64, .f32⟩
  | .hbm, ⟨64, _⟩ => ⟨S16384x17x64, .f32⟩
  | _, _ => ⟨S16384x17x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call0_cst : Ref sig .tc := ⟨.hbm, 36, rfl⟩
abbrev main_call0_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call1_cst : Ref sig .tc := ⟨.hbm, 61, rfl⟩
abbrev main_call1_v0 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== Proof.Block.lean ====
/- What the kernel's body computes from one block, read in closed form at the ideal reals: the two layers as sums. -/
module

public import proofs.«01_k».proof.Proof.Gen.KernelIdeal.Frame
public import Idealize.ShloMosaic.Lib.Pointwise

@[expose] public section

set_option maxRecDepth 16384

noncomputable section

namespace Cert.Block

open Idealize.ShloMosaic Idealize.ShloMosaic.TcCoe Idealize.SL.Sem
open Cert.KernelIdeal Cert.KernelIdeal.Gen

/-- The graph aggregation of one block: node `n` of the result is the sum of the nodes `k` of `h`, weighted by row `n` of
    the affinity matrix. -/
def mix (a : FVec Ideal S17x17 .f32) (h : FVec Ideal S17x64x512 .f32) : FVec Ideal S17x64x512 .f32 :=
  fun i => ∑ k : Fin 17, a (ix2 (i 0) k) * h (ix3 k (i 1) (i 2))

/-- The features of one block, node by node and batch element by batch element, through the matrix `w`. -/
def lin (w : FVec Ideal S64x64 .f32) (y : FVec Ideal S17x64x512 .f32) : FVec Ideal S17x64x512 .f32 :=
  fun i => ∑ d : Fin 64, w (ix2 (i 1) d) * y (ix3 (i 0) d (i 2))

/-- One layer of the kernel on one block: aggregate, go through the matrix, add the shift, cut off at zero. -/
def layer (a : FVec Ideal S17x17 .f32) (w : FVec Ideal S64x64 .f32) (t : FVec Ideal S1x64x1 .f32)
    (h : FVec Ideal S17x64x512 .f32) : FVec Ideal S17x64x512 .f32 :=
  fun i => max (lin w (mix a h) i + t (ix3 0 (i 1) 0)) 0

/-- The product of the affinity matrix with the chunk `j` (of four, 128 batch elements each) of a block. -/
def chunk (a : FVec Ideal S17x17 .bf16) (h : FVec Ideal S17x64x512 .bf16) (j : Fin 4)
    (hs : S17x64x512.Slices ![0, 0, 128 * j.val] S17x64x128) : FVec Ideal S17x64x128 .f32 :=
  matmul dot_S17x17_S17x64x128_S17x64x128_1_0_0_12_n_n none a (extractStridedSlice S17x64x128 ![0, 0, 128 * j.val] h hs)
    (constant S17x64x128 .f32 0x00000000#32)

/-- Every chunk can be cut out. -/
theorem slices_chunk (j : Fin 4) : S17x64x512.Slices ![0, 0, 128 * j.val] S17x64x128 := by
  revert j; decide

/-- The chunk `j`, read at an index. -/
theorem chunk_apply (a : FVec Ideal S17x17 .bf16) (h : FVec Ideal S17x64x512 .bf16) (j : Fin 4)
    (hs : S17x64x512.Slices ![0, 0, 128 * j.val] S17x64x128) (n : Fin 17) (d : Fin 64) (c : Fin 128) (b : Fin 512)
    (hb : b.val = 128 * j.val + c.val) : chunk a h j hs (ix3 n d c) = ∑ k : Fin 17, a (ix2 n k) * h (ix3 k d b) := by
  pointwise [chunk]
  refine Finset.sum_congr rfl fun k _ => ?_
  congr 3
  all_goals first | rfl | exact Fin.ext hb.symm

/-- The four chunks joined: how the kernel aggregates. -/
def chunks (a : FVec Ideal S17x17 .bf16) (h : FVec Ideal S17x64x512 .bf16) : FVec Ideal S17x64x512 .f32 :=
  concatenate S17x64x512 2 (List.ofFn fun j : Fin 4 => (⟨S17x64x128, chunk a h j (slices_chunk j)⟩ : (s : Shape) × (s.Idx → EReal)))
    concatenates_S17x64x128_S17x64x128_S17x64x128_S17x64x128_S17x64x512_d2

/-- The four chunks joined are the aggregation of the whole block. -/
theorem chunks_eq (a : FVec Ideal S17x17 .bf16) (h : FVec Ideal S17x64x512 .bf16) : chunks a h = mix a h := by
  funext i
  idx_vars i
  refine (concatenate_ofFn_apply (2 : Fin S17x64x512.rank) (fun j => chunk a h j (slices_chunk j)) _ rfl 128 rfl (ix3 i0 i1 i2)
    ⟨i2.val / 128, by omega⟩ rfl (ix3 i0 i1 ⟨i2.val % 128, by omega⟩) rfl ?_).trans
    (chunk_apply a h _ _ i0 i1 _ i2 (Nat.div_add_mod i2.val 128).symm)
  intro b hb
  fin_cases b
  · rfl
  · rfl
  · exact absurd rfl hb

/-- Node `j` of `y` through the matrix `w`, as a block of one node. -/
def slab (w : FVec Ideal S64x64 .bf16) (y : FVec Ideal S17x64x512 .f32) (j : Fin 17)
    (h : S17x64x512.Slices ![j.val, 0, 0] S1x64x512) : FVec Ideal S1x64x512 .f32 :=
  shapeCast S1x64x512 (matmul dot_S64x64_S64x512_S64x512_1_0_0_1_n_n none w
    (truncf .bf16 (shapeCast S64x512 (extractStridedSlice S1x64x512 ![j.val, 0, 0] y h) shapeCasts_S1x64x512_S64x512)
      bitsLt_bf16_f32) (constant S64x512 .f32 0x00000000#32)) shapeCasts_S64x512_S1x64x512

/-- Every node can be cut out. -/
theorem slices (j : Fin 17) : S17x64x512.Slices ![j.val, 0, 0] S1x64x512 := by
  revert j; decide

/-- The slab of node `j`, read at an index. -/
theorem slab_apply (w : FVec Ideal S64x64 .bf16) (y : FVec Ideal S17x64x512 .f32) (j : Fin 17)
    (h : S17x64x512.Slices ![j.val, 0, 0] S1x64x512) (z : Fin 1) (e : Fin 64) (b : Fin 512) :
    slab w y j h (ix3 z e b) = ∑ d : Fin 64, w (ix2 e d) * y (ix3 j d b) := by
  pointwise [slab]

/-- The slabs of the seventeen nodes, stacked: what each layer of the kernel does with its matrix. -/
def stack (w : FVec Ideal S64x64 .bf16) (y : FVec Ideal S17x64x512 .f32) : FVec Ideal S17x64x512 .f32 :=
  concatenate S17x64x512 0 (List.ofFn fun j : Fin 17 => (⟨S1x64x512, slab w y j (slices j)⟩ : (s : Shape) × (s.Idx → EReal)))
    concatenates_S1x64x512_S1x64x512_S1x64x512_S1x64x512_S1x64x512_S1x64x512_S1x64x512_S1x64x512_S1x64x512_S1x64x512_S1x64x512_S1x64x512_S1x64x512_S1x64x512_S1x64x512_S1x64x512_S1x64x512_S17x64x512_d0

/-- The stack is the product with the matrix, node by node. -/
theorem stack_eq (w : FVec Ideal S64x64 .bf16) (y : FVec Ideal S17x64x512 .f32) : stack w y = lin w y := by
  funext i
  idx_vars i
  refine (concatenate_ofFn_unit_apply (0 : Fin S17x64x512.rank) (fun j => slab w y j (slices j)) _ rfl rfl (ix3 i0 i1 i2) i0 rfl
    (ix3 (0 : Fin 1) i1 i2) ?_).trans (slab_apply w y i0 (slices i0) 0 i1 i2)
  intro b hb
  fin_cases b
  · exact absurd rfl hb
  · rfl
  · rfl

section Body
variable (x0 : FVec Ideal S17x64x512 .f32) (x1 : FVec Ideal S17x17 .f32) (x2 : FVec Ideal S64x64 .f32) (x3 : FVec Ideal S1x64x1 .f32)
  (x4 : FVec Ideal S64x64 .f32) (x5 : FVec Ideal S1x64x1 .f32)

/-- The kernel's own spelling of a layer before the aggregation of the next: the stack, the shift stretched over the
    block, the cut at zero. -/
def spelt (w : FVec Ideal S64x64 .f32) (y : FVec Ideal S17x64x512 .f32) (t : FVec Ideal S1x64x1 .f32) : FVec Ideal S17x64x512 .f32 :=
  maximumf (addf (stack (truncf .bf16 (shapeCast S64x64 w shapeCasts_S64x64_S64x64) bitsLt_bf16_f32) y)
    (broadcastTo S17x64x512 (shapeCast S1x64x1 t shapeCasts_S1x64x1_S1x64x1) broadcasts_S1x64x1_S17x64x512))
    (broadcast S17x64x512 (Scalar.ofBits .f32 0x00000000#32))

/-- That spelling is the layer. -/
theorem spelt_eq (a : FVec Ideal S17x17 .f32) (w : FVec Ideal S64x64 .f32) (h : FVec Ideal S17x64x512 .f32) (t : FVec Ideal S1x64x1 .f32) :
    spelt w (mix a h) t = layer a w t h := by
  funext i
  idx_vars i
  pointwise [spelt, layer, stack_eq]
  rfl

/-- What the first aggregation leaves. -/
theorem pay6_eq : k0_pay6 (F := Ideal) x0 x1 = mix x1 x0 := by
  have e : k0_pay6 (F := Ideal) x0 x1 = chunks (k0_pay5 x1) (truncf .bf16 (k0_pay4 x0) bitsLt_bf16_f32) := rfl
  rw [e, chunks_eq, k0_pay4, shapeCast_self]
  rfl

/-- What the second aggregation leaves. -/
theorem pay71_eq : k0_pay71 (F := Ideal) x0 x1 x2 x3 x4 x5 = mix x1 (layer x1 x2 x3 x0) := by
  unfold k0_pay71 k0_pay70 k0_pay69 k0_pay68 k0_pay67 k0_pay66 k0_pay65 k0_pay64 k0_pay63 k0_pay62 k0_pay61 k0_pay60 k0_pay59
    k0_pay58 k0_pay57 k0_pay56 k0_pay55 k0_pay54 k0_pay53 k0_pay52 k0_pay51
  simp only [View.ld_unit_zero (S := S17x64x512) (off := ![0, 0, 0]) (by decide), View.ld_unit_zero (S := S64x64) (off := ![0, 0]) (by decide),
    View.ld_unit_zero (S := S17x17) (off := ![0, 0]) (by decide), View.ld_unit_zero (S := S1x64x1) (off := ![0, 0, 0]) (by decide)]
  trans chunks (k0_pay5 x1) (truncf .bf16 (spelt x2 (k0_pay6 (F := Ideal) x0 x1) x3) bitsLt_bf16_f32)
  · rfl
  · rw [chunks_eq, pay6_eq, spelt_eq]
    rfl

/-- What the body leaves in the result's buffer, from the blocks of its operands: the two layers, and the block itself
    added at the end. -/
theorem out_eq : out0_6 (F := Ideal) x0 x1 x2 x3 x4 x5 = fun i => layer x1 x4 x5 (layer x1 x2 x3 x0) i + x0 i := by
  trans addf (spelt x4 (k0_pay71 (F := Ideal) x0 x1 x2 x3 x4 x5) x5) (k0_pay4 (F := Ideal) x0)
  · unfold out0_6
    refine (View.canon_unit_zero (S := S17x64x512) (by decide) _ _).trans ?_
    unfold k0_pay72 k0_pay71
    simp only [View.ld_unit_zero (S := S17x64x512) (off := ![0, 0, 0]) (by decide),
      View.ld_unit_zero (S := S64x64) (off := ![0, 0]) (by decide), View.ld_unit_zero (S := S1x64x1) (off := ![0, 0, 0]) (by decide)]
    rfl
  · rw [pay71_eq, spelt_eq, k0_pay4, shapeCast_self]
    rfl

end Body

end Cert.Block

end
-- ==== Proof.Layer.lean ====
/-
  One layer of the graph network in its two spellings, over the extended reals, and that they agree.

  A layer takes the node features `h` (17 nodes, 64 features), mixes the nodes by the affinity matrix `a`, multiplies by the
  weights `w`, adds the bias, normalises with the stored mean and variance, and clips at zero. The plain spelling does this in
  that order. The folded spelling scales the weights' columns by `γ · rsqrt (variance + ε)` beforehand and adds one shift per
  feature in which bias, mean and β are gathered.
-/
module

public import Idealize.ShloMosaic.Lib.Pointwise

@[expose] public section

namespace Cert.Layer

open Idealize.ShloMosaic

/-- The constant added to a variance before the reciprocal square root. -/
noncomputable def eps : EReal := Ideal.ofBits .f32 0x3A83126F#32

/-- A matrix as a function of its two coordinates. -/
def mat {a b : ℕ} (w : (⟨2, ![a, b]⟩ : Shape).Idx → EReal) : Fin a → Fin b → EReal := fun d e => w (ix2 d e)

/-- A vector as a function of its coordinate. -/
def vec {a : ℕ} (x : (⟨1, ![a]⟩ : Shape).Idx → EReal) : Fin a → EReal := fun e => x (ix1 e)

/-- The reciprocal square root of a variance plus ε, feature by feature. -/
noncomputable def root (v : (⟨1, ![64]⟩ : Shape).Idx → EReal) : Fin 64 → EReal := fun e => Ideal.rsqrt (vec v e + eps)

/-- The layer as the reference computes it: weights, then the mixing of the nodes, then bias, mean, scale and shift, each in
  turn. `r` is the reciprocal square root of the variance plus ε. -/
noncomputable def plain (a : Fin 17 → Fin 17 → EReal) (w : Fin 64 → Fin 64 → EReal) (b g be mn r : Fin 64 → EReal)
    (h : Fin 17 → Fin 64 → EReal) : Fin 17 → Fin 64 → EReal :=
  fun n e => max (g e * ((∑ k, (∑ d, h k d * w d e) * a n k) + b e - mn e) * r e + be e) 0

/-- The layer as the kernel computes it: the nodes are mixed first, the weights' columns carry the scale `g · r`, and one
  shift per feature is added. -/
noncomputable def folded (a : Fin 17 → Fin 17 → EReal) (w : Fin 64 → Fin 64 → EReal) (b g be mn r : Fin 64 → EReal)
    (h : Fin 17 → Fin 64 → EReal) : Fin 17 → Fin 64 → EReal :=
  fun n e => max ((∑ d, (w d e * (g e * r e)) * ∑ k, a n k * h k d) + (b e * (g e * r e) + be e - mn e * (g e * r e))) 0

/-- The coercion of the reals passes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A real factor distributes over the difference of a real number and any extended real: with an infinite `m` the difference
  is infinite, and both sides are the same infinity, or zero where the factor is zero. -/
theorem sub_mul_coe (x s : ℝ) (m : EReal) : ((x : EReal) - m) * s = x * s - m * s := by
  induction m using EReal.rec with
  | coe m => norm_cast; ring
  | top =>
    rcases lt_trichotomy s 0 with hs | rfl | hs
    · rw [EReal.sub_top, EReal.bot_mul_coe_of_neg hs, EReal.top_mul_coe_of_neg hs, ← EReal.coe_mul, EReal.coe_sub_bot]
    · simp
    · rw [EReal.sub_top, EReal.bot_mul_coe_of_pos hs, EReal.top_mul_coe_of_pos hs, ← EReal.coe_mul, EReal.sub_top]
  | bot =>
    rcases lt_trichotomy s 0 with hs | rfl | hs
    · rw [EReal.coe_sub_bot, EReal.top_mul_coe_of_neg hs, EReal.bot_mul_coe_of_neg hs, ← EReal.coe_mul, EReal.sub_top]
    · simp
    · rw [EReal.coe_sub_bot, EReal.top_mul_coe_of_pos hs, EReal.bot_mul_coe_of_pos hs, ← EReal.coe_mul, EReal.coe_sub_bot]

/-- Scale and shift gathered: for a real sum `p`, bias, γ and reciprocal root, and any mean and β. -/
theorem affine_eq (p b g r : ℝ) (m be : EReal) :
    (p : EReal) * (g * r) + (b * (g * r) + be - m * (g * r)) = g * ((p : EReal) + b - m) * r + be := by
  have e : (g : EReal) * ((p : EReal) + b - m) * r = p * (g * r) + b * (g * r) - m * (g * r) := by
    rw [mul_comm (g : EReal), mul_assoc, ← EReal.coe_mul g r, ← EReal.coe_add, sub_mul_coe, ← EReal.coe_mul, ← EReal.coe_mul,
      ← EReal.coe_mul, ← EReal.coe_add, add_mul]
  rw [e]
  simp only [sub_eq_add_neg]
  ac_rfl

section
variable (a : Fin 17 → Fin 17 → ℝ) (w : Fin 64 → Fin 64 → ℝ) (b g : Fin 64 → ℝ) (be mn : Fin 64 → EReal) (r : Fin 64 → ℝ)
  (h : Fin 17 → Fin 64 → ℝ)

/-- The two matrix products of the plain layer, of real matrices, are a real number. -/
theorem plain_sum (n : Fin 17) (e : Fin 64) :
    (∑ k, (∑ d, (h k d : EReal) * w d e) * a n k) = ((∑ k, (∑ d, h k d * w d e) * a n k : ℝ) : EReal) := by
  simp only [coe_sum, EReal.coe_mul]

/-- The two matrix products of the folded layer are the plain layer's, times the scale. -/
theorem folded_sum (n : Fin 17) (e : Fin 64) :
    (∑ d, ((w d e : EReal) * (g e * r e)) * ∑ k, (a n k : EReal) * h k d)
      = ((∑ k, (∑ d, h k d * w d e) * a n k : ℝ) : EReal) * (g e * r e) := by
  simp only [← EReal.coe_mul, ← coe_sum]
  congr 1
  simp only [Finset.mul_sum, Finset.sum_mul]
  rw [Finset.sum_comm]
  exact Finset.sum_congr rfl fun k _ => Finset.sum_congr rfl fun d _ => by ring

/-- The folded layer is the plain layer where everything but mean and β is real. -/
theorem folded_eq_plain : folded (fun n k => a n k) (fun d e => w d e) (fun e => b e) (fun e => g e) be mn (fun e => r e)
      (fun k d => h k d)
    = plain (fun n k => a n k) (fun d e => w d e) (fun e => b e) (fun e => g e) be mn (fun e => r e) (fun k d => h k d) := by
  funext n e
  unfold folded plain
  rw [folded_sum, plain_sum, affine_eq]

/-- The plain layer of real numbers is real. -/
theorem plain_real (be mn : Fin 64 → ℝ) : ∃ h' : Fin 17 → Fin 64 → ℝ,
    plain (fun n k => a n k) (fun d e => w d e) (fun e => b e) (fun e => g e) (fun e => be e) (fun e => mn e) (fun e => r e)
      (fun k d => h k d) = fun n e => (h' n e : EReal) := by
  refine ⟨fun n e => max (g e * ((∑ k, (∑ d, h k d * w d e) * a n k) + b e - mn e) * r e + be e) 0, ?_⟩
  funext n e
  unfold plain
  rw [plain_sum, EReal.coe_strictMono.monotone.map_max]
  norm_cast

end

/-- The reciprocal square root of a positive extended real is real (zero at `⊤`). -/
theorem rsqrt_real (x : EReal) (hx : 0 < x) : ∃ r : ℝ, Ideal.rsqrt x = r := by
  induction x using EReal.rec with
  | bot => simp at hx
  | top => exact ⟨0, by simp⟩
  | coe x =>
    have hx' : 0 < x := by exact_mod_cast hx
    exact ⟨(Real.sqrt x)⁻¹, by rw [Ideal.rsqrt_coe, if_neg hx'.le.not_gt, if_neg hx'.ne']⟩

/-- An extended real whose magnitude is below `⊤` is real. -/
theorem real_of_abs_lt (x : EReal) (hx : max x (-x) < ⊤) : ∃ r : ℝ, x = r := by
  induction x using EReal.rec with
  | bot => simp at hx
  | top => simp at hx
  | coe x => exact ⟨x, rfl⟩

/-- A family of extended reals, each of them real, is a family of reals. -/
theorem family_real {ι : Type} (f : ι → EReal) (hf : ∀ i, ∃ r : ℝ, f i = r) : ∃ f' : ι → ℝ, f = fun i => (f' i : EReal) :=
  ⟨fun i => (hf i).choose, funext fun i => (hf i).choose_spec⟩

/-- A matrix of extended reals, each of them real, is a matrix of reals. -/
theorem matrix_real {ι κ : Type} (f : ι → κ → EReal) (hf : ∀ i k, ∃ r : ℝ, f i k = r) :
    ∃ f' : ι → κ → ℝ, f = fun i k => (f' i k : EReal) :=
  ⟨fun i k => (hf i k).choose, funext fun i => funext fun k => (hf i k).choose_spec⟩

/-- Two folded layers are two plain layers: of the second layer's β and mean nothing is asked, everything else is real. -/
theorem net_eq (a : Fin 17 → Fin 17 → EReal) (w0 w1 : Fin 64 → Fin 64 → EReal) (b0 g0 be0 mn0 r0 b1 g1 be1 mn1 r1 : Fin 64 → EReal)
    (x : Fin 17 → Fin 64 → EReal) (ha : ∀ i k, ∃ r : ℝ, a i k = r) (hx : ∀ i k, ∃ r : ℝ, x i k = r)
    (hw0 : ∀ i k, ∃ r : ℝ, w0 i k = r) (hb0 : ∀ i, ∃ r : ℝ, b0 i = r) (hg0 : ∀ i, ∃ r : ℝ, g0 i = r)
    (hbe0 : ∀ i, ∃ r : ℝ, be0 i = r) (hmn0 : ∀ i, ∃ r : ℝ, mn0 i = r) (hr0 : ∀ i, ∃ r : ℝ, r0 i = r)
    (hw1 : ∀ i k, ∃ r : ℝ, w1 i k = r) (hb1 : ∀ i, ∃ r : ℝ, b1 i = r) (hg1 : ∀ i, ∃ r : ℝ, g1 i = r)
    (hr1 : ∀ i, ∃ r : ℝ, r1 i = r) :
    folded a w1 b1 g1 be1 mn1 r1 (folded a w0 b0 g0 be0 mn0 r0 x) = plain a w1 b1 g1 be1 mn1 r1 (plain a w0 b0 g0 be0 mn0 r0 x) := by
  obtain ⟨a, rfl⟩ := matrix_real a ha
  obtain ⟨x, rfl⟩ := matrix_real x hx
  obtain ⟨w0, rfl⟩ := matrix_real w0 hw0
  obtain ⟨w1, rfl⟩ := matrix_real w1 hw1
  obtain ⟨b0, rfl⟩ := family_real b0 hb0
  obtain ⟨g0, rfl⟩ := family_real g0 hg0
  obtain ⟨be0, rfl⟩ := family_real be0 hbe0
  obtain ⟨mn0, rfl⟩ := family_real mn0 hmn0
  obtain ⟨r0, rfl⟩ := family_real r0 hr0
  obtain ⟨b1, rfl⟩ := family_real b1 hb1
  obtain ⟨g1, rfl⟩ := family_real g1 hg1
  obtain ⟨r1, rfl⟩ := family_real r1 hr1
  obtain ⟨h, hh⟩ := plain_real a w0 b0 g0 r0 x be0 mn0
  rw [folded_eq_plain, hh, folded_eq_plain]

end Cert.Layer

end
-- ==== Proof.Value.lean ====
/- The kernel's whole result, as a function of the argument arrays: the host lines before the region, the array the region
   leaves, and the transpose after it. -/
module

public import proofs.«01_k».proof.Proof.Block
public import proofs.«01_k».proof.Proof.Layer
public import Idealize.ShloMosaic.Lib.Pipeline.ValueKit

@[expose] public section

set_option maxRecDepth 16384

noncomputable section

namespace Cert.KValue

open Idealize.ShloMosaic Idealize.ShloMosaic.TcCoe Idealize.SL.Sem
open Cert.Layer (eps mat vec root)
open Cert.KernelIdeal Cert.KernelIdeal.Gen

variable (m : (ℓ : Loc nD τ sig) → Buf (Elt Ideal) ℓ) (c : Dev nD)

/-- The scale of a layer's features as the host computes it: γ times the reciprocal square root of the variance plus ε. -/
def scale (g v : FVec Ideal S64 .f32) : FVec Ideal S64 .f32 :=
  mulf g (Host.rsqrt (addf v (broadcastInDim S64 ![] bcast_S_S64 (constant S_ .f32 0x3A83126F#32))))

/-- A layer's weights as the region finds them: the columns scaled, then transposed. -/
def weights (w : FVec Ideal S64x64 .f32) (s : FVec Ideal S64 .f32) : FVec Ideal S64x64 .f32 :=
  transpose S64x64 [1, 0] (mulf w (broadcastInDim S64x64 ![0, 1] bcast_S1x64_S64x64_0_1
    (broadcastInDim S1x64 ![1] bcast_S64_S1x64_1 s))) transposes_S64x64_S64x64_1_0

/-- A layer's shift as the region finds it. -/
def shift (b be mn s : FVec Ideal S64 .f32) : FVec Ideal S1x64x1 .f32 :=
  shapeCast S1x64x1 (subf (addf (mulf b s) be) (mulf mn s)) shapeCasts_S64_S1x64x1

/-- The scale at a feature. -/
theorem scale_apply (g v : FVec Ideal S64 .f32) (e : Fin 64) :
    scale g v (ix1 e) = g (ix1 e) * Ideal.rsqrt (v (ix1 e) + eps) := by
  pointwise [scale, eps]

/-- The scaled, transposed weights at an index. -/
theorem weights_apply (w : FVec Ideal S64x64 .f32) (s : FVec Ideal S64 .f32) (e d : Fin 64) :
    weights w s (ix2 e d) = w (ix2 d e) * s (ix1 e) := by
  pointwise [weights]

/-- The shift at a feature. -/
theorem shift_apply (b be mn s : FVec Ideal S64 .f32) (e : Fin 64) :
    shift b be mn s (ix3 0 e 0) = b (ix1 e) * s (ix1 e) + be (ix1 e) - mn (ix1 e) * s (ix1 e) := by
  pointwise [shift]

/-- The features as the region finds them: node, feature, batch element. -/
theorem V_main_v26 : V m c main_v26 = transpose (s := S16384x17x64) S17x64x16384 [1, 2, 0] (m ((c : Thread nD τ).loc main_arg0))
    transposes_S16384x17x64_S17x64x16384_1_2_0 := by
  show StableHlo.after hostOps0 _ (Proc.devRef .tc main_v26) = _
  after_results
  try rfl

/-- The features at an index. -/
theorem V_main_v26_apply (n : Fin 17) (d : Fin 64) (b : Fin 16384) :
    V m c main_v26 (ix3 n d b) = m ((c : Thread nD τ).loc main_arg0) (ix3 b n d) := by
  rw [V_main_v26]
  pointwise

/-- The first layer's weights as the region finds them. -/
theorem V_main_v11 : V m c main_v11 = weights (m ((c : Thread nD τ).loc main_arg2))
    (scale (m ((c : Thread nD τ).loc main_arg4)) (m ((c : Thread nD τ).loc main_arg7))) := by
  show StableHlo.after hostOps0 _ (Proc.devRef .tc main_v11) = _
  after_results
  try rfl

/-- The second layer's weights as the region finds them. -/
theorem V_main_v15 : V m c main_v15 = weights (m ((c : Thread nD τ).loc main_arg8))
    (scale (m ((c : Thread nD τ).loc main_arg10)) (m ((c : Thread nD τ).loc main_arg13))) := by
  show StableHlo.after hostOps0 _ (Proc.devRef .tc main_v15) = _
  after_results
  try rfl

/-- The first layer's shift as the region finds it. -/
theorem V_main_v20 : V m c main_v20 = shift (m ((c : Thread nD τ).loc main_arg3)) (m ((c : Thread nD τ).loc main_arg5))
    (m ((c : Thread nD τ).loc main_arg6)) (scale (m ((c : Thread nD τ).loc main_arg4)) (m ((c : Thread nD τ).loc main_arg7))) := by
  show StableHlo.after hostOps0 _ (Proc.devRef .tc main_v20) = _
  after_results
  try rfl

/-- The second layer's shift as the region finds it. -/
theorem V_main_v25 : V m c main_v25 = shift (m ((c : Thread nD τ).loc main_arg9)) (m ((c : Thread nD τ).loc main_arg11))
    (m ((c : Thread nD τ).loc main_arg12)) (scale (m ((c : Thread nD τ).loc main_arg10)) (m ((c : Thread nD τ).loc main_arg13))) := by
  show StableHlo.after hostOps0 _ (Proc.devRef .tc main_v25) = _
  after_results
  try rfl

/-- The kernel's layer on a block, with the weights and the shift the host prepared, is the folded layer of each of the block's
    batch elements. -/
theorem layer_eq (a : FVec Ideal S17x17 .f32) (w : FVec Ideal S64x64 .f32) (b g be mn v : FVec Ideal S64 .f32)
    (h : FVec Ideal S17x64x512 .f32) (n : Fin 17) (e : Fin 64) (j : Fin 512) :
    Block.layer a (weights w (scale g v)) (shift b be mn (scale g v)) h (ix3 n e j)
      = Layer.folded (mat a) (mat w) (vec b) (vec g) (vec be) (vec mn) (root v) (fun k d => h (ix3 k d j)) n e := by
  show max ((∑ d : Fin 64, weights w (scale g v) (ix2 e d) * ∑ k : Fin 17, a (ix2 n k) * h (ix3 k d j))
    + shift b be mn (scale g v) (ix3 0 e 0)) 0 = _
  simp only [weights_apply, shift_apply, scale_apply]
  rfl

/-- The kernel's result for one batch element, from the argument arrays: two folded layers and the input added. -/
def net (x : Fin 17 → Fin 64 → EReal) : Fin 17 → Fin 64 → EReal := fun n e =>
  Layer.folded (mat (m ((c : Thread nD τ).loc main_arg1))) (mat (m ((c : Thread nD τ).loc main_arg8)))
    (vec (m ((c : Thread nD τ).loc main_arg9))) (vec (m ((c : Thread nD τ).loc main_arg10)))
    (vec (m ((c : Thread nD τ).loc main_arg11))) (vec (m ((c : Thread nD τ).loc main_arg12)))
    (root (m ((c : Thread nD τ).loc main_arg13)))
    (Layer.folded (mat (m ((c : Thread nD τ).loc main_arg1))) (mat (m ((c : Thread nD τ).loc main_arg2)))
      (vec (m ((c : Thread nD τ).loc main_arg3))) (vec (m ((c : Thread nD τ).loc main_arg4)))
      (vec (m ((c : Thread nD τ).loc main_arg5))) (vec (m ((c : Thread nD τ).loc main_arg6)))
      (root (m ((c : Thread nD τ).loc main_arg7))) x) n e + x n e

/-- The region's result array, index by index. -/
def region : FVec Ideal S17x64x16384 .f32 := fun i =>
  net m c (fun n d => m ((c : Thread nD τ).loc main_arg0) (ix3 (i 2) n d)) (i 0) (i 1)

/-- The features' block of a grid point: the point's number along the batch. -/
theorem index0 : ∀ t : Fin cfg0.N, win0_0.index t = ![0, 0, t.val] := (by decide +kernel : ∀ t : Fin grid0.N, _)

/-- The affinity matrix is one block. -/
theorem index1 : ∀ t : Fin cfg0.N, win0_1.index t = ![0, 0] := (by decide +kernel : ∀ t : Fin grid0.N, _)

/-- The first layer's weights are one block. -/
theorem index2 : ∀ t : Fin cfg0.N, win0_2.index t = ![0, 0] := (by decide +kernel : ∀ t : Fin grid0.N, _)

/-- The first layer's shift is one block. -/
theorem index3 : ∀ t : Fin cfg0.N, win0_3.index t = ![0, 0, 0] := (by decide +kernel : ∀ t : Fin grid0.N, _)

/-- The second layer's weights are one block. -/
theorem index4 : ∀ t : Fin cfg0.N, win0_4.index t = ![0, 0] := (by decide +kernel : ∀ t : Fin grid0.N, _)

/-- The second layer's shift is one block. -/
theorem index5 : ∀ t : Fin cfg0.N, win0_5.index t = ![0, 0, 0] := (by decide +kernel : ∀ t : Fin grid0.N, _)

/-- The result's block of a grid point: the point's number along the batch. -/
theorem index6 : ∀ t : Fin cfg0.N, win0_6.index t = ![0, 0, t.val] := (by decide +kernel : ∀ t : Fin grid0.N, _)

/-- Every point has the whole affinity matrix. -/
theorem iblk1 (t : Fin cfg0.N) : iblk m c 1 t = m ((c : Thread nD τ).loc main_arg1) := by
  refine Eq.trans ?_ (V_main_arg1 m c)
  funext y
  blk_simp [iblk, index1]
  congr 1
  blk_ext [index1]

/-- Every point has the whole of the first layer's weights. -/
theorem iblk2 (t : Fin cfg0.N) : iblk m c 2 t = V m c main_v11 := by
  funext y
  blk_simp [iblk, index2]
  congr 1
  blk_ext [index2]

/-- Every point has the whole of the first layer's shift. -/
theorem iblk3 (t : Fin cfg0.N) : iblk m c 3 t = V m c main_v20 := by
  funext y
  blk_simp [iblk, index3]
  congr 1
  blk_ext [index3]

/-- Every point has the whole of the second layer's weights. -/
theorem iblk4 (t : Fin cfg0.N) : iblk m c 4 t = V m c main_v15 := by
  funext y
  blk_simp [iblk, index4]
  congr 1
  blk_ext [index4]

/-- Every point has the whole of the second layer's shift. -/
theorem iblk5 (t : Fin cfg0.N) : iblk m c 5 t = V m c main_v25 := by
  funext y
  blk_simp [iblk, index5]
  congr 1
  blk_ext [index5]

/-- The batch element a point's block holds at position `j`. -/
def batch (t : Fin cfg0.N) (j : Fin 512) : Fin 16384 :=
  ⟨512 * t.val + j.val, by have h : t.val < 32 := t.isLt; omega⟩

/-- Where the result's block of a point lies in the result. -/
theorem emb6 (t : Fin cfg0.N) (n : Fin 17) (e : Fin 64) (j : Fin 512) :
    (win0_6.blk t).view.emb (ix3 n e j) = ix3 n e (batch t j) := by
  blk_ext [index6, batch]

/-- Where the features' block of a point lies in the features. -/
theorem emb0 (t : Fin cfg0.N) (n : Fin 17) (e : Fin 64) (j : Fin 512) :
    (win0_0.blk t).view.emb (ix3 n e j) = ix3 n e (batch t j) := by
  blk_ext [index0, batch]

/-- The features' block of a point, read from the argument. -/
theorem iblk0_apply (t : Fin cfg0.N) (n : Fin 17) (d : Fin 64) (j : Fin 512) :
    iblk m c 0 t (ix3 n d j) = m ((c : Thread nD τ).loc main_arg0) (ix3 (batch t j) n d) := by
  refine Eq.trans ?_ (V_main_v26_apply m c n d (batch t j))
  blk_simp [iblk]
  exact congrArg _ (emb0 t n d j)

/-- What a point writes back is its block of the one array `region`. -/
theorem block_eq (t : Fin cfg0.N) (n : Fin 17) (e : Fin 64) (j : Fin 512) :
    Block.layer (iblk m c 1 t) (iblk m c 4 t) (iblk m c 5 t)
        (Block.layer (iblk m c 1 t) (iblk m c 2 t) (iblk m c 3 t) (iblk m c 0 t)) (ix3 n e j) + iblk m c 0 t (ix3 n e j)
      = region m c (ix3 n e (batch t j)) := by
  rw [iblk1, iblk2, iblk3, iblk4, iblk5, V_main_v11, V_main_v15, V_main_v20, V_main_v25, layer_eq]
  simp only [layer_eq, iblk0_apply]
  rfl

/-- The region leaves the array `region`. -/
theorem arrAt_eq : (dats m 0 c).arrAt 6 cfg0.N = region m c := by
  refine (dats m 0 c).arrAt_eq_of_covers 6 (region m c) (by decide +kernel) fun t hf y => ?_
  blk_simp
  rw [after0_6, Block.out_eq]
  obtain ⟨n, e, j, rfl⟩ : ∃ (n : Fin 17) (e : Fin 64) (j : Fin 512), y = ix3 n e j := ⟨y 0, y 1, y 2, (ix3_eta y).symm⟩
  exact (block_eq m c t n e j).trans (congrArg (region m c) (emb6 t n e j).symm)

/-- The kernel's result, index by index: batch element, node, feature. -/
def result : FVec Ideal S16384x17x64 .f32 := fun i =>
  net m c (fun n d => m ((c : Thread nD τ).loc main_arg0) (ix3 (i 0) n d)) (i 1) (i 2)

/-- The host line after the region transposes the region's array into the result. -/
theorem tail_eq : Pipeline.afterTail₀ cfgs (dats m) 0 (V0 m) [hostOps1] c main_v28 = result m c := by
  show StableHlo.after hostOps1 (Pipeline.withArrays spec0 c (V0 m c) fun w => (dats m 0 c).arrAt w cfg0.N)
    (Proc.devRef .tc main_v28) = _
  after_results
  rw [show Pipeline.withArrays spec0 c (V0 m c) (fun w => (dats m 0 c).arrAt w cfg0.N) (Proc.devRef .tc main_v27)
    = region m c from (Pipeline.withArrays_arr spec0 (by decide) c (V0 m c) _ 6).trans (arrAt_eq m c)]
  funext i
  idx_vars i
  pointwise [region, result]

/-- The program's run: every execution ends with the closed-form result. -/
theorem run (ρ : Dev nD → PrngReg) : θ_run defs (onTc (τ := τ) (main (F := Ideal))) ⟨m, fun _ => 0, ρ⟩
    (fun r => ∀ c : Dev nD, r.2.mem ((c.tc : Thread nD τ).loc main_v28) = result m c) :=
  (θ_run defs _ _).mono (fun _ h c =>
    ((h c).2 main_v28 (Pipeline.mem_restRefs_of main_v28 (by decide) (by decide))).trans (tail_eq m c)) (run_main m ρ)

end Cert.KValue

end
-- ==== Proof.Reference.lean ====
/- The reference's result, as a function of the argument arrays: two plain layers and the input added. -/
module

public import proofs.«01_k».proof.Proof.Layer
public import proofs.«01_k».proof.Proof.Gen.ReferenceIdeal
public import proofs.«01_k».proof.Proof.Gen.ReferenceIdeal.Run

@[expose] public section

set_option maxRecDepth 16384

noncomputable section

namespace Cert.RefRead

open Idealize.ShloMosaic Idealize.ShloMosaic.TcCoe Idealize.SL.Sem
open Cert.ReferenceIdeal Cert.ReferenceIdeal.Gen Cert.Layer

/-- One number per feature, repeated over the batch and the nodes. -/
def spread (x : FVec Ideal S64 .f32) : FVec Ideal S16384x17x64 .f32 :=
  broadcastInDim S16384x17x64 ![0, 1, 2] bcast_S1x1x64_S16384x17x64_0_1_2 (broadcastInDim S1x1x64 ![2] bcast_S64_S1x1x64_2 x)

/-- Features through the weights, then mixed over the nodes. -/
def mixed (a : FVec Ideal S17x17 .f32) (w : FVec Ideal S64x64 .f32) (h : FVec Ideal S16384x17x64 .f32) :
    FVec Ideal S16384x17x64 .f32 :=
  transpose S16384x17x64 [0, 2, 1] (Host.dotGeneral dot_S16384x17x64_S17x17_S16384x64x17_1_1_02_0_n_n none
    (Host.dotGeneral dot_S16384x17x64_S64x64_S16384x17x64_2_0_01_1_n_n none h w) a)
    transposes_S16384x64x17_S16384x17x64_0_2_1

/-- One layer of the reference, in its own operations. -/
def layer (a : FVec Ideal S17x17 .f32) (w : FVec Ideal S64x64 .f32) (b g be mn v : FVec Ideal S64 .f32)
    (h : FVec Ideal S16384x17x64 .f32) : FVec Ideal S16384x17x64 .f32 :=
  maximumf (addf (mulf (mulf (spread g) (subf (addf (mixed a w h) (spread b)) (spread mn)))
      (spread (Host.rsqrt (addf v (broadcastInDim S64 ![] bcast_S_S64 (constant S_ .f32 0x3A83126F#32)))))) (spread be))
    (broadcastInDim S16384x17x64 ![] bcast_S_S16384x17x64 (constant S_ .f32 0x00000000#32))

/-- A spread vector at an index. -/
theorem spread_apply (x : FVec Ideal S64 .f32) (b : Fin 16384) (n : Fin 17) (e : Fin 64) :
    spread x (ix3 b n e) = x (ix1 e) := by
  pointwise [spread]

/-- The two products at an index. -/
theorem mixed_apply (a : FVec Ideal S17x17 .f32) (w : FVec Ideal S64x64 .f32) (h : FVec Ideal S16384x17x64 .f32)
    (b : Fin 16384) (n : Fin 17) (e : Fin 64) :
    mixed a w h (ix3 b n e) = ∑ k : Fin 17, (∑ d : Fin 64, h (ix3 b k d) * w (ix2 d e)) * a (ix2 n k) := by
  pointwise [mixed]

/-- A layer of the reference at an index is the plain layer of that batch element. -/
theorem layer_apply (a : FVec Ideal S17x17 .f32) (w : FVec Ideal S64x64 .f32) (b g be mn v : FVec Ideal S64 .f32)
    (h : FVec Ideal S16384x17x64 .f32) (i : Fin 16384) (n : Fin 17) (e : Fin 64) :
    layer a w b g be mn v h (ix3 i n e)
      = plain (mat a) (mat w) (vec b) (vec g) (vec be) (vec mn) (root v) (fun k d => h (ix3 i k d)) n e := by
  show max (spread g (ix3 i n e) * (mixed a w h (ix3 i n e) + spread b (ix3 i n e) - spread mn (ix3 i n e))
    * spread (Host.rsqrt (addf v (broadcastInDim S64 ![] bcast_S_S64 (constant S_ .f32 0x3A83126F#32)))) (ix3 i n e)
    + spread be (ix3 i n e)) (broadcastInDim S16384x17x64 ![] bcast_S_S16384x17x64 (constant S_ .f32 0x00000000#32) (ix3 i n e)) = _
  simp only [spread_apply, mixed_apply]
  pointwise [plain, mat, vec, root, eps]

variable (m : (ℓ : Loc nD τ sig) → Buf (Elt Ideal) ℓ)

/-- The reference's result in its own operations: two layers and the input added. -/
def result (c : Dev nD) : FVec Ideal S16384x17x64 .f32 :=
  addf (layer (m ((c : Thread nD τ).loc main_arg1)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13))
    (layer (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg0))))
    (m ((c : Thread nD τ).loc main_arg0))

/-- The reference's run: every execution ends with `result`. -/
theorem run (ρ : Dev nD → PrngReg) : θ_run defs (onTc (τ := τ) (main (F := Ideal))) ⟨m, fun _ => 0, ρ⟩
    (fun r => ∀ c : Dev nD, r.2.mem ((c.tc : Thread nD τ).loc main_v44) = result m c) :=
  (θ_run defs _ _).mono (fun _ h c => (h c).1) (Value.run (F := Ideal) m ρ)

end Cert.RefRead

end
-- ==== Proof.Tame.lean ====
/- What the precondition says: every argument it names is real, and both variances plus ε are positive. -/
module

public import proofs.«01_k».proof.Pre_tame
public import proofs.«01_k».proof.Proof.Layer
public import Idealize.ShloMosaic.Lib.ReduceAll

@[expose] public section

set_option maxRecDepth 16384

noncomputable section

namespace Cert.Tame

open Idealize.ShloMosaic Cert.Pre_tame Cert.Layer

/-- The shape relations the precondition's operations take. -/
theorem facts : Cert.Pre_tame.Facts where
  bcast_S_S16384x17x64 := by decide
  reducesTo_S16384x17x64_S_d0_1_2 := by decide
  h_S_ := by decide
  bcast_S_S17x17 := by decide
  reducesTo_S17x17_S_d0_1 := by decide
  bcast_S_S64x64 := by decide
  reducesTo_S64x64_S_d0_1 := by decide
  bcast_S_S64 := by decide
  reducesTo_S64_S_d0 := by decide

/-- The same, found by search. -/
instance : Cert.Pre_tame.Facts := facts

/-- A shape without axes has one index. -/
instance : Subsingleton S_.Idx := ⟨fun _ _ => funext fun d => d.elim0⟩

/-- If all magnitudes of an array test below infinity, then all its elements are real. -/
theorem real_of_all {s : Shape} {axes : List (Fin s.rank)} (x : FVec Ideal s .f32) (hb : S_.BroadcastsInDim s (![] : Fin 0 → Fin s.rank))
    (hr : s.ReducesTo axes S_) (hS : 0 < S_.numel) (j : S_.Idx)
    (h : Host.reduce IntOp.andi (cmpf .olt (Host.absf x) (broadcastInDim s ![] hb (constant S_ .f32 0x7F800000#32)))
      (constantI S_ 1 1#1) hr hS j = 1#1) (i : s.Idx) : ∃ r : ℝ, (x i : EReal) = r := by
  have e := Host.reduce_andi_all _ _ hr hS j h i
  have top : Ideal.ofBits .f32 0x7F800000#32 = ⊤ := by simp [Ideal.ofBits, Ideal.ieee]
  replace e : BitVec.ofBool (decide (max (x i : EReal) (-(x i : EReal)) < Ideal.ofBits .f32 0x7F800000#32)) = 1#1 := e
  rw [top] at e
  refine real_of_abs_lt _ ?_
  by_contra hn
  rw [decide_eq_false hn] at e
  exact absurd e (by decide)

/-- If all variances plus ε test positive, then the reciprocal square roots are real. -/
theorem root_of_all (v : FVec Ideal S64 .f32) (hb hb' : S_.BroadcastsInDim S64 (![] : Fin 0 → Fin S64.rank))
    (hr : S64.ReducesTo [0] S_) (hS : 0 < S_.numel) (j : S_.Idx)
    (h : Host.reduce IntOp.andi (cmpf .ogt (addf v (broadcastInDim S64 ![] hb (constant S_ .f32 0x3A83126F#32)))
        (broadcastInDim S64 ![] hb' (constant S_ .f32 0x00000000#32)))
      (constantI S_ 1 1#1) hr hS j = 1#1) (e : Fin 64) : ∃ r : ℝ, root v e = r := by
  have t := Host.reduce_andi_all _ _ hr hS j h (ix1 e)
  replace t : BitVec.ofBool (decide (Ideal.ofBits .f32 0x00000000#32 < vec v e + eps)) = 1#1 := t
  rw [Ideal.ofBits_zero_f32] at t
  refine rsqrt_real _ ?_
  by_contra hn
  rw [decide_eq_false hn] at t
  exact absurd t (by decide)

/-- The precondition read back, over the argument arrays in the program's order. -/
structure Reals (x : FVec Ideal S16384x17x64 .f32) (a : FVec Ideal S17x17 .f32) (w0 : FVec Ideal S64x64 .f32)
    (b0 g0 be0 mn0 v0 : FVec Ideal S64 .f32) (w1 : FVec Ideal S64x64 .f32) (b1 g1 v1 : FVec Ideal S64 .f32) : Prop where
  x : ∀ i, ∃ r : ℝ, (x i : EReal) = r
  a : ∀ i, ∃ r : ℝ, (a i : EReal) = r
  w0 : ∀ i, ∃ r : ℝ, (w0 i : EReal) = r
  b0 : ∀ i, ∃ r : ℝ, (b0 i : EReal) = r
  g0 : ∀ i, ∃ r : ℝ, (g0 i : EReal) = r
  be0 : ∀ i, ∃ r : ℝ, (be0 i : EReal) = r
  mn0 : ∀ i, ∃ r : ℝ, (mn0 i : EReal) = r
  w1 : ∀ i, ∃ r : ℝ, (w1 i : EReal) = r
  b1 : ∀ i, ∃ r : ℝ, (b1 i : EReal) = r
  g1 : ∀ i, ∃ r : ℝ, (g1 i : EReal) = r
  r0 : ∀ e, ∃ r : ℝ, root v0 e = r
  r1 : ∀ e, ∃ r : ℝ, root v1 e = r

/-- The precondition says `Reals`. -/
theorem reals_of_fn (x : FVec Ideal S16384x17x64 .f32) (a : FVec Ideal S17x17 .f32) (w0 : FVec Ideal S64x64 .f32)
    (b0 g0 be0 mn0 v0 : FVec Ideal S64 .f32) (w1 : FVec Ideal S64x64 .f32) (b1 g1 be1 mn1 v1 : FVec Ideal S64 .f32)
    (j : S_.Idx) (h : fn (F := Ideal) x a w0 b0 g0 be0 mn0 v0 w1 b1 g1 be1 mn1 v1 j = 1#1) :
    Reals x a w0 b0 g0 be0 mn0 v0 w1 b1 g1 v1 := by
  have split : ∀ p q : IVec S_ 1, andi p q j = 1#1 → p j = 1#1 ∧ q j = 1#1 := fun p q e => IntOp.andi_eq_one.mp e
  obtain ⟨h, hr1⟩ := split _ _ h
  obtain ⟨h, hr0⟩ := split _ _ h
  obtain ⟨h, hg1⟩ := split _ _ h
  obtain ⟨h, hb1⟩ := split _ _ h
  obtain ⟨h, hw1⟩ := split _ _ h
  obtain ⟨h, hmn0⟩ := split _ _ h
  obtain ⟨h, hbe0⟩ := split _ _ h
  obtain ⟨h, hg0⟩ := split _ _ h
  obtain ⟨h, hb0⟩ := split _ _ h
  obtain ⟨h, hw0⟩ := split _ _ h
  obtain ⟨hx, ha⟩ := split _ _ h
  exact ⟨real_of_all _ _ _ _ _ hx, real_of_all _ _ _ _ _ ha, real_of_all _ _ _ _ _ hw0, real_of_all _ _ _ _ _ hb0,
    real_of_all _ _ _ _ _ hg0, real_of_all _ _ _ _ _ hbe0, real_of_all _ _ _ _ _ hmn0, real_of_all _ _ _ _ _ hw1,
    real_of_all _ _ _ _ _ hb1, real_of_all _ _ _ _ _ hg1, root_of_all _ _ _ _ _ _ hr0, root_of_all _ _ _ _ _ _ hr1⟩

end Cert.Tame

end
-- ==== Proof.Agree.lean ====
/- Kernel and reference end with the same array where the precondition holds and the arguments agree. -/
module

public import proofs.«01_k».proof.Proof.Value
public import proofs.«01_k».proof.Proof.Reference
public import proofs.«01_k».proof.Proof.Tame

@[expose] public section

set_option maxRecDepth 16384

noncomputable section

namespace Cert.Agree

open Idealize.ShloMosaic Idealize.ShloMosaic.TcCoe Idealize.SL.Sem Cert.KernelIdeal

/-- The two closed forms are one array. -/
theorem result_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h : Tame.Reals (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg13)))
    (e0 : m' ((c : Thread Cert.ReferenceIdeal.nD Cert.ReferenceIdeal.τ).loc Cert.ReferenceIdeal.main_arg0) = m ((c : Thread nD τ).loc main_arg0))
    (e1 : m' ((c : Thread Cert.ReferenceIdeal.nD Cert.ReferenceIdeal.τ).loc Cert.ReferenceIdeal.main_arg1) = m ((c : Thread nD τ).loc main_arg1))
    (e2 : m' ((c : Thread Cert.ReferenceIdeal.nD Cert.ReferenceIdeal.τ).loc Cert.ReferenceIdeal.main_arg2) = m ((c : Thread nD τ).loc main_arg2))
    (e3 : m' ((c : Thread Cert.ReferenceIdeal.nD Cert.ReferenceIdeal.τ).loc Cert.ReferenceIdeal.main_arg3) = m ((c : Thread nD τ).loc main_arg3))
    (e4 : m' ((c : Thread Cert.ReferenceIdeal.nD Cert.ReferenceIdeal.τ).loc Cert.ReferenceIdeal.main_arg4) = m ((c : Thread nD τ).loc main_arg4))
    (e5 : m' ((c : Thread Cert.ReferenceIdeal.nD Cert.ReferenceIdeal.τ).loc Cert.ReferenceIdeal.main_arg5) = m ((c : Thread nD τ).loc main_arg5))
    (e6 : m' ((c : Thread Cert.ReferenceIdeal.nD Cert.ReferenceIdeal.τ).loc Cert.ReferenceIdeal.main_arg6) = m ((c : Thread nD τ).loc main_arg6))
    (e7 : m' ((c : Thread Cert.ReferenceIdeal.nD Cert.ReferenceIdeal.τ).loc Cert.ReferenceIdeal.main_arg7) = m ((c : Thread nD τ).loc main_arg7))
    (e8 : m' ((c : Thread Cert.ReferenceIdeal.nD Cert.ReferenceIdeal.τ).loc Cert.ReferenceIdeal.main_arg8) = m ((c : Thread nD τ).loc main_arg8))
    (e9 : m' ((c : Thread Cert.ReferenceIdeal.nD Cert.ReferenceIdeal.τ).loc Cert.ReferenceIdeal.main_arg9) = m ((c : Thread nD τ).loc main_arg9))
    (e10 : m' ((c : Thread Cert.ReferenceIdeal.nD Cert.ReferenceIdeal.τ).loc Cert.ReferenceIdeal.main_arg10) = m ((c : Thread nD τ).loc main_arg10))
    (e11 : m' ((c : Thread Cert.ReferenceIdeal.nD Cert.ReferenceIdeal.τ).loc Cert.ReferenceIdeal.main_arg11) = m ((c : Thread nD τ).loc main_arg11))
    (e12 : m' ((c : Thread Cert.ReferenceIdeal.nD Cert.ReferenceIdeal.τ).loc Cert.ReferenceIdeal.main_arg12) = m ((c : Thread nD τ).loc main_arg12))
    (e13 : m' ((c : Thread Cert.ReferenceIdeal.nD Cert.ReferenceIdeal.τ).loc Cert.ReferenceIdeal.main_arg13) = m ((c : Thread nD τ).loc main_arg13)) :
    RefRead.result m' c = KValue.result m c := by
  unfold RefRead.result
  rw [e0, e1, e2, e3, e4, e5, e6, e7, e8, e9, e10, e11, e12, e13]
  funext i
  obtain ⟨b, n, e, rfl⟩ : ∃ (b : Fin 16384) (n : Fin 17) (e : Fin 64), i = ix3 b n e := ⟨i 0, i 1, i 2, (ix3_eta i).symm⟩
  refine congrArg (· + m ((c : Thread nD τ).loc main_arg0) (ix3 b n e)) ?_
  rw [RefRead.layer_apply]
  simp only [RefRead.layer_apply]
  exact (congrFun (congrFun (Layer.net_eq _ _ _ _ _ _ _ _ _ _ _ _ _ _ (fun i k => h.a (ix2 i k)) (fun k d => h.x (ix3 b k d))
    (fun i k => h.w0 (ix2 i k)) (fun i => h.b0 (ix1 i)) (fun i => h.g0 (ix1 i)) (fun i => h.be0 (ix1 i))
    (fun i => h.mn0 (ix1 i)) h.r0 (fun i k => h.w1 (ix2 i k)) (fun i => h.b1 (ix1 i)) (fun i => h.g1 (ix1 i)) h.r1) n) e).symm

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Init

@[expose] public section

noncomputable section

namespace Cert.Proof

open Idealize.ShloMosaic Idealize.SL.Sem

/-- The reference ends with its arguments unchanged and, having no semaphores, with no counter raised. -/
theorem reference_frame : Cert.quiescent_ReferenceIdeal (hReferenceIdeal := Cert.ReferenceIdeal.Gen.facts) := fun m g _ =>
  (θ_run _ _ _).mono (fun _ h => ⟨fun c => (h c).2, sem_eq_zero_of_no_sems (by decide) _⟩)
    (Cert.ReferenceIdeal.Value.run (F := Ideal) m g)

/-- Kernel and reference, from agreeing tame arguments, end with one and the same array. -/
theorem algebraic : Cert.algebraic_KernelIdeal_ReferenceIdeal_pre_tame (hKernelIdeal := Cert.KernelIdeal.Gen.facts)
    (hReferenceIdeal := Cert.ReferenceIdeal.Gen.facts) (hPre_tame := Cert.Tame.facts) := by
  intro m ρ m' ρ' hpre hagree
  refine ⟨fun c => Cert.KValue.result m c, ?_, ?_⟩
  · exact (θ_run _ _ _).mono (fun _ h c => ⟨h.1 c, h.2 c⟩)
      (θ_run_and (Cert.KValue.run m ρ) (Cert.KernelIdeal.Gen.unchanged m ρ))
  · refine (θ_run _ _ _).mono (fun _ h c => ⟨(h.1 c).trans ?_, (h.2 c).2⟩)
      (θ_run_and (Cert.RefRead.run m' ρ') (Cert.ReferenceIdeal.Value.run (F := Ideal) m' ρ'))
    obtain ⟨e0, e1, e2, e3, e4, e5, e6, e7, e8, e9, e10, e11, e12, e13⟩ := hagree c
    exact Cert.Agree.result_eq m m' c
      (Cert.Tame.reals_of_fn _ _ _ _ _ _ _ _ _ _ _ _ _ _ (fun d => d.elim0) (congrFun (hpre c) _))
      e0 e1 e2 e3 e4 e5 e6 e7 e8 e9 e10 e11 e12 e13

/-- Everything the certificate claims. -/
theorem claim : Cert.Claim := ⟨Cert.Kernel.Gen.facts, Cert.KernelIdeal.Gen.facts, Cert.ReferenceIdeal.Gen.facts,
  Cert.Tame.facts, fun m ρ _ => Cert.Kernel.Gen.frame m ρ, fun m ρ _ => Cert.KernelIdeal.Gen.frame m ρ,
  fun m ρ _ => Cert.KernelIdeal.Gen.frame m ρ, reference_frame, fun m ρ _ => reference_frame m ρ trivial, trivial,
  algebraic⟩

end Cert.Proof

end
